-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_padding [hPre_no_padding : Cert.Pre_no_padding.Facts] (m : (ℓ : Loc Cert.KernelIdeal.nD Cert.KernelIdeal.τ Cert.KernelIdeal.sig) → Buf (Elt Ideal) ℓ) : Prop :=
  ∀ c : Dev Cert.KernelIdeal.nD,
    (Cert.Pre_no_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_padding [hPre_no_padding : Cert.Pre_no_padding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_no_padding [hKernelIdeal : Cert.KernelIdeal.Facts] [hPre_no_padding : Cert.Pre_no_padding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_padding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_no_padding [hReferenceIdeal : Cert.ReferenceIdeal.Facts] [hPre_no_padding : Cert.Pre_no_padding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_padding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_no_padding [hKernelIdeal : Cert.KernelIdeal.Facts] [hReferenceIdeal : Cert.ReferenceIdeal.Facts] [hPre_no_padding : Cert.Pre_no_padding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_padding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_no_padding : Cert.Pre_no_padding.Facts),
    quiescent_Kernel (hKernel := hKernel)
    ∧ quiescent_KernelIdeal (hKernelIdeal := hKernelIdeal)
    ∧ quiescent_KernelIdeal_pre_no_padding (hKernelIdeal := hKernelIdeal) (hPre_no_padding := hPre_no_padding)
    ∧ quiescent_ReferenceIdeal (hReferenceIdeal := hReferenceIdeal)
    ∧ quiescent_ReferenceIdeal_pre_no_padding (hReferenceIdeal := hReferenceIdeal) (hPre_no_padding := hPre_no_padding)
    ∧ preserves_Kernel_KernelIdeal
    ∧ algebraic_KernelIdeal_ReferenceIdeal_pre_no_padding (hKernelIdeal := hKernelIdeal) (hReferenceIdeal := hReferenceIdeal) (hPre_no_padding := hPre_no_padding)
-- ==== Pre_no_padding.lean ====
abbrev S2x4096x4096 : Shape := ⟨3, ![2, 4096, 4096]⟩
abbrev S2x4096 : Shape := ⟨2, ![2, 4096]⟩
abbrev S120x4096 : Shape := ⟨2, ![120, 4096]⟩
abbrev S120 : Shape := ⟨1, ![120]⟩
abbrev S_ : Shape := ⟨0, ![]⟩

class Facts : Prop where
  reducesTo_S2x4096_S_d0_1 : S2x4096.ReducesTo [0, 1] S_
  h_S_ : 0 < S_.numel

variable [Facts]

def fn {F : FTy → Type} [FloatOps F] (main_arg0 : FVec F S2x4096x4096 .f32) (main_arg1 : IVec S2x4096 1) (main_arg2 : FVec F S120x4096 .f32) (main_arg3 : FVec F S120 .f32) : IVec S_ 1 :=
  let main_v0 : IVec S2x4096 1 := noti main_arg1
  let main_c : IVec S_ 1 := constantI S_ 1 1#1
  let main_v1 : IVec S_ 1 := (fun x v => Host.reduce IntOp.andi x v reducesTo_S2x4096_S_d0_1 h_S_) main_v0 main_c
  main_v1
-- ==== Kernel.lean ====
abbrev S2x4096x4096 : Shape := ⟨3, ![2, 4096, 4096]⟩
abbrev S2x4096 : Shape := ⟨2, ![2, 4096]⟩
abbrev S120x4096 : Shape := ⟨2, ![120, 4096]⟩
abbrev S120 : Shape := ⟨1, ![120]⟩
abbrev S2x120 : Shape := ⟨2, ![2, 120]⟩
abbrev S1x120 : Shape := ⟨2, ![1, 120]⟩
abbrev S2x1x120 : Shape := ⟨3, ![2, 1, 120]⟩
abbrev S2x2 : Shape := ⟨2, ![2, 2]⟩
abbrev S2x1 : Shape := ⟨2, ![2, 1]⟩
abbrev S2x256x4096 : Shape := ⟨3, ![2, 256, 4096]⟩
abbrev S2 : Shape := ⟨1, ![2]⟩
abbrev S1x2x120 : Shape := ⟨3, ![1, 2, 120]⟩
abbrev S2x2x120 : Shape := ⟨3, ![2, 2, 120]⟩

abbrev nBuf : Space → Nat
  | .hbm => 9
  | .vmem => 9
  | .smem => 0
  | _ => 0

abbrev bufTy : (tb : Table) → Fin (tcTables nBuf tb) → BufTy
  | .hbm, ⟨0, _⟩ => ⟨S2x4096x4096, .f32⟩
  | .hbm, ⟨1, _⟩ => ⟨S2x4096, .i1⟩
  | .hbm, ⟨2, _⟩ => ⟨S120x4096, .f32⟩
  | .hbm, ⟨3, _⟩ => ⟨S120, .f32⟩
  | .hbm, ⟨4, _⟩ => ⟨S2x120, .i32⟩
  | .hbm, ⟨5, _⟩ => ⟨S1x120, .f32⟩
  | .hbm, ⟨6, _⟩ => ⟨S2x1x120, .f32⟩
  | .hbm, ⟨7, _⟩ => ⟨S2x2, .i32⟩
  | .hbm, ⟨8, _⟩ => ⟨S2x1, .i32⟩
  | .local _ .vmem, ⟨0, _⟩ => ⟨S2x256x4096, .f32⟩
  | .local _ .vmem, ⟨1, _⟩ => ⟨S2x256x4096, .f32⟩
  | .local _ .vmem, ⟨2, _⟩ => ⟨S120x4096, .f32⟩
  | .local _ .vmem, ⟨3, _⟩ => ⟨S1x120, .f32⟩
  | .local _ .vmem, ⟨4, _⟩ => ⟨S2x120, .i32⟩
  | .local _ .vmem, ⟨5, _⟩ => ⟨S2x1x120, .f32⟩
  | .local _ .vmem, ⟨6, _⟩ => ⟨S2x2, .i32⟩
  | .local _ .vmem, ⟨7, _⟩ => ⟨S2x1, .i32⟩
  | .local _ .vmem, ⟨8, _⟩ => ⟨S2x4096, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v10 : BitVec 1 := Scalar.cmpi .eq arg0 c15_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S120x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x120 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x4096x4096 : Shape := ⟨3, ![2, 4096, 4096]⟩
abbrev S2x4096 : Shape := ⟨2, ![2, 4096]⟩
abbrev S120x4096 : Shape := ⟨2, ![120, 4096]⟩
abbrev S120 : Shape := ⟨1, ![120]⟩
abbrev S120x2 : Shape := ⟨2, ![120, 2]⟩
abbrev S2x4096x1 : Shape := ⟨3, ![2, 4096, 1]⟩
abbrev S_ : Shape := ⟨0, ![]⟩
abbrev S4096x120 : Shape := ⟨2, ![4096, 120]⟩
abbrev S2x120 : Shape := ⟨2, ![2, 120]⟩
abbrev S1x120 : Shape := ⟨2, ![1, 120]⟩
abbrev S2x1x120 : Shape := ⟨3, ![2, 1, 120]⟩
abbrev S2x1 : Shape := ⟨2, ![2, 1]⟩
abbrev S2x1x1 : Shape := ⟨3, ![2, 1, 1]⟩
abbrev S2x1x2 : Shape := ⟨3, ![2, 1, 2]⟩
abbrev S2x2 : Shape := ⟨2, ![2, 2]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096, .i1⟩
  | .hbm, ⟨2, _⟩ => ⟨S120x4096, .f32⟩
  | .hbm, ⟨3, _⟩ => ⟨S120, .f32⟩
  | .hbm, ⟨4, _⟩ => ⟨S120x2, .i32⟩
  | .hbm, ⟨5, _⟩ => ⟨S2x4096, .i1⟩
  | .hbm, ⟨6, _⟩ => ⟨S2x4096, .f32⟩
  | .hbm, ⟨7, _⟩ => ⟨S2x4096x1, .f32⟩
  | .hbm, ⟨8, _⟩ => ⟨S2x4096x4096, .f32⟩
  | .hbm, ⟨9, _⟩ => ⟨S2x4096x4096, .f32⟩
  | .hbm, ⟨10, _⟩ => ⟨S_, .f32⟩
  | .hbm, ⟨11, _⟩ => ⟨S2x4096, .f32⟩
  | .hbm, ⟨12, _⟩ => ⟨S4096x120, .f32⟩
  | .hbm, ⟨13, _⟩ => ⟨S2x120, .f32⟩
  | .hbm, ⟨14, _⟩ => ⟨S1x120, .f32⟩
  | .hbm, ⟨15, _⟩ => ⟨S2x120, .f32⟩
  | .hbm, ⟨16, _⟩ => ⟨S2x120, .f32⟩
  | .hbm, ⟨17, _⟩ => ⟨S2x1x120, .f32⟩
  | .hbm, ⟨18, _⟩ => ⟨S_, .f32⟩
  | .hbm, ⟨19, _⟩ => ⟨S2x1, .f32⟩
  | .hbm, ⟨20, _⟩ => ⟨S_, .f32⟩
  | .hbm, ⟨21, _⟩ => ⟨S2x1, .f32⟩
  | .hbm, ⟨22, _⟩ => ⟨S2x1, .f32⟩
  | .hbm, ⟨23, _⟩ => ⟨S2x1x1, .f32⟩
  | .hbm, ⟨24, _⟩ => ⟨S2x1x120, .f32⟩
  | .hbm, ⟨25, _⟩ => ⟨S2x1x120, .f32⟩
  | .hbm, ⟨26, _⟩ => ⟨S2x1x120, .f32⟩
  | .hbm, ⟨27, _⟩ => ⟨S_, .f32⟩
  | .hbm, ⟨28, _⟩ => ⟨S2x1, .f32⟩
  | .hbm, ⟨29, _⟩ => ⟨S2x1x1, .f32⟩
  | .hbm, ⟨30, _⟩ => ⟨S2x1x1, .f32⟩
  | .hbm, ⟨31, _⟩ => ⟨S2x1x120, .f32⟩
  | .hbm, ⟨32, _⟩ => ⟨S2x1x120, .f32⟩
  | .hbm, ⟨33, _⟩ => ⟨S2x1x120, .i32⟩
  | .hbm, ⟨34, _⟩ => ⟨S_, .f32⟩
  | .hbm, ⟨35, _⟩ => ⟨S_, .i32⟩
  | .hbm, ⟨36, _⟩ => ⟨S2x1, .f32⟩
  | .hbm, ⟨37, _⟩ => ⟨S2x1, .i32⟩
  | .hbm, ⟨38, _⟩ => ⟨S_, .i32⟩
  | .hbm, ⟨39, _⟩ => ⟨S2x1, .i32⟩
  | .hbm, ⟨40, _⟩ => ⟨S2x1, .i1⟩
  | .hbm, ⟨41, _⟩ => ⟨S_, .i32⟩
  | .hbm, ⟨42, _⟩ => ⟨S2x1, .i32⟩
  | .hbm, ⟨43, _⟩ => ⟨S2x1, .i32⟩
  | .hbm, ⟨44, _⟩ => ⟨S2x1, .i32⟩
  | .hbm, ⟨45, _⟩ => ⟨S2x1x1, .i32⟩
  | .hbm, ⟨46, _⟩ => ⟨S2x1x2, .i32⟩
  | .hbm, ⟨47, _⟩ => ⟨S2x2, .i32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_call0_cst_0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_cst_1 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_v12 : Ref sig .tc := ⟨.hbm, 32, rfl⟩
abbrev main_call1_v0 : Ref sig .tc := ⟨.hbm, 33, rfl⟩
abbrev main_call1_cst : Ref sig .tc := ⟨.hbm, 34, rfl⟩
abbrev main_call1_c : Ref sig .tc := ⟨.hbm, 35, rfl⟩
abbrev main_call1_v1_0 : Ref sig .tc := ⟨.hbm, 36, rfl⟩
abbrev main_v13 : Ref sig .tc := ⟨.hbm, 37, rfl⟩
abbrev main_c_0 : Ref sig .tc := ⟨.hbm, 38, rfl⟩
abbrev main_v14 : Ref sig .tc := ⟨.hbm, 39, rfl⟩
abbrev main_v15 : Ref sig .tc := ⟨.hbm, 40, rfl⟩
abbrev main_c_1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩

abbrev nD : Nat := 1
abbrev τ : Topo := Topo.v7x

variable {F : FTy → Type} [FloatOps F]
-- ==== Proof.KernelValue.lean ====
/-
  What the kernel's three results hold after the run.

  The body adds to a [2, 4096] scratch, at each of the 16 grid points, the token sum of that point's
  block of 256 tokens; the first point starts from zero, the last one goes on to the results. Here:
  the scratch after point `n` is `accum n`, and the three result arrays are the body's three stored
  values (`k0_pay5`, `k0_pay7`, `k0_pay6`) at `accum 15`, the weights, the bias and the table of pairs.
  Nothing here depends on the arithmetic: the module holds for every float instance.
-/
module

public import proofs.«01_k».proof.Proof.Gen.KernelIdeal.Value
public import Idealize.ShloMosaic.Lib.Tactic
public import Idealize.ShloMosaic.Lib.Pipeline.ValueKit

@[expose] public section

set_option maxRecDepth 16384

noncomputable section

namespace Cert.KernelIdeal.Out

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero2 : (![0, 0] : Fin 2 → Nat) = fun _ => 0 := funext fun a => by fin_cases a <;> rfl

theorem zero3 : (![0, 0, 0] : Fin 3 → Nat) = fun _ => 0 := funext fun a => by fin_cases a <;> rfl

section Cases

variable (c : Dev nD) (i : grid0.Coords)
  (a1 : Memref sig .tc .vmem S2x256x4096 .f32) (h1 : a1.IsWhole)
  (a2 : Memref sig .tc .vmem S120x4096 .f32) (h2 : a2.IsWhole)
  (a3 : Memref sig .tc .vmem S1x120 .f32) (h3 : a3.IsWhole)
  (a4 : Memref sig .tc .vmem S2x120 .i32) (h4 : a4.IsWhole)
  (a5 : Memref sig .tc .vmem S2x1x120 .f32) (h5 : a5.IsWhole)
  (a6 : Memref sig .tc .vmem S2x2 .i32) (h6 : a6.IsWhole)
  (a7 : Memref sig .tc .vmem S2x1 .i32) (h7 : a7.IsWhole)
  (a8 : Memref sig .tc .vmem S2x4096 .f32) (h8 : a8.IsWhole)
  (x : Vec F S2x256x4096 .f32) (w : Vec F S120x4096 .f32) (b : Vec F S1x120 .f32) (s : Vec F S2x120 .i32)
  (acc : Vec F S2x4096 .f32)

/-- The first point leaves in the scratch its block's token sum over the zero it stored first. -/
theorem scratch_first (hc0 : cond0_0 i) (hc1 : ¬cond0_1 i) :
    sout0_A_0 c i a1 h1 a2 h2 a3 h3 a4 h4 a5 h5 a6 h6 a7 h7 a8 h8 hc0 hc1 x w b s = k0_pay2 k0_pay1 x := by
  unfold sout0_A_0
  rw [View.read_writes_eq_canon _ _ _ (scover0_A_0 c i a1 h1 a2 h2 a3 h3 a4 h4 a5 h5 a6 h6 a7 h7 a8 h8 hc0 hc1 x w b s)]
  unfold kernelRun0_A
  dsimp only
  sl_unfold_words
  rw [View.canon_cons_unit_zero (S := S2x4096) zero2, View.readCov_unit_zero (S := S2x4096) _ zero2]
  simp only [View.readAt_eq_ld, h1.read_unread, View.ld_unit_zero (S := S2x256x4096) zero3]

/-- A point between leaves in the scratch its block's token sum over what the scratch held. -/
theorem scratch_next (hc0 : ¬cond0_0 i) (hc1 : ¬cond0_1 i) :
    sout0_B_0 c i a1 h1 a2 h2 a3 h3 a4 h4 a5 h5 a6 h6 a7 h7 a8 h8 hc0 hc1 x w b s acc = k0_pay2 acc x := by
  unfold sout0_B_0
  rw [View.read_writes_eq_canon _ _ _ (scover0_B_0 c i a1 h1 a2 h2 a3 h3 a4 h4 a5 h5 a6 h6 a7 h7 a8 h8 hc0 hc1 x w b s acc)]
  unfold kernelRun0_B
  dsimp only
  sl_unfold_words
  rw [View.canon_unit_zero (S := S2x4096) zero2]
  simp only [View.readAt_eq_ld, h1.read_unread, h8.read_unread, View.ld_unit_zero (S := S2x256x4096) zero3,
    View.ld_unit_zero (S := S2x4096) zero2]

/-- The last point stores as log-probabilities `k0_pay5` of the finished scratch, the weights and the bias. -/
theorem logp_last (hc0 : ¬cond0_0 i) (hc1 : cond0_1 i) :
    out0_C_4 c i a1 h1 a2 h2 a3 h3 a4 h4 a5 h5 a6 h6 a7 h7 a8 h8 hc0 hc1 x w b s acc = k0_pay5 (k0_pay2 acc x) w b := by
  unfold out0_C_4
  rw [View.read_writes_eq_canon _ _ _ (cover0_C_4 c i a1 h1 a2 h2 a3 h3 a4 h4 a5 h5 a6 h6 a7 h7 a8 h8 hc0 hc1 x w b s acc)]
  unfold kernelRun0_C
  dsimp only
  sl_unfold_words
  rw [View.canon_unit_zero (S := S2x1x120) zero3, View.readCov_unit_zero (S := S2x4096) _ zero2]
  simp only [View.readAt_eq_ld, h1.read_unread, h2.read_unread, h3.read_unread, h8.read_unread,
    View.ld_unit_zero (S := S2x256x4096) zero3, View.ld_unit_zero (S := S2x4096) zero2,
    View.ld_unit_zero (S := S120x4096) zero2, View.ld_unit_zero (S := S1x120) zero2]

/-- … as the selected pairs `k0_pay7` of the same and the table of pairs. -/
theorem sel_last (hc0 : ¬cond0_0 i) (hc1 : cond0_1 i) :
    out0_C_5 c i a1 h1 a2 h2 a3 h3 a4 h4 a5 h5 a6 h6 a7 h7 a8 h8 hc0 hc1 x w b s acc = k0_pay7 (k0_pay2 acc x) w b s := by
  unfold out0_C_5
  rw [View.read_writes_eq_canon _ _ _ (cover0_C_5 c i a1 h1 a2 h2 a3 h3 a4 h4 a5 h5 a6 h6 a7 h7 a8 h8 hc0 hc1 x w b s acc)]
  unfold kernelRun0_C
  dsimp only
  sl_unfold_words
  rw [View.canon_unit_zero (S := S2x2) zero2, View.readCov_unit_zero (S := S2x4096) _ zero2]
  simp only [View.readAt_eq_ld, h1.read_unread, h2.read_unread, h3.read_unread, h4.read_unread, h8.read_unread,
    View.ld_unit_zero (S := S2x256x4096) zero3, View.ld_unit_zero (S := S2x4096) zero2,
    View.ld_unit_zero (S := S120x4096) zero2, View.ld_unit_zero (S := S1x120) zero2,
    View.ld_unit_zero (S := S2x120) zero2]

/-- … and as the predictions `k0_pay6`. -/
theorem pred_last (hc0 : ¬cond0_0 i) (hc1 : cond0_1 i) :
    out0_C_6 c i a1 h1 a2 h2 a3 h3 a4 h4 a5 h5 a6 h6 a7 h7 a8 h8 hc0 hc1 x w b s acc = k0_pay6 (k0_pay2 acc x) w b := by
  unfold out0_C_6
  rw [View.read_writes_eq_canon _ _ _ (cover0_C_6 c i a1 h1 a2 h2 a3 h3 a4 h4 a5 h5 a6 h6 a7 h7 a8 h8 hc0 hc1 x w b s acc)]
  unfold kernelRun0_C
  dsimp only
  sl_unfold_words
  rw [View.canon_unit_zero (S := S2x1) zero2, View.readCov_unit_zero (S := S2x4096) _ zero2]
  simp only [View.readAt_eq_ld, h1.read_unread, h2.read_unread, h3.read_unread, h8.read_unread,
    View.ld_unit_zero (S := S2x256x4096) zero3, View.ld_unit_zero (S := S2x4096) zero2,
    View.ld_unit_zero (S := S120x4096) zero2, View.ld_unit_zero (S := S1x120) zero2]

end Cases

/-- At the first point the frame's account of the scratch is the block's token sum over zero. -/
theorem scratch_A (c : Dev nD) (t : Fin cfg0.N) (h0 : t.val % 16 = 0) (h1 : ¬t.val % 16 = 15) :
    (outsAt0 m c t.val t.isLt).2.2.2 = k0_pay2 k0_pay1 (iblk m c 0 t) := by
  rw [outsAt0_A m c t h0 h1]
  dsimp only
  rw [scratch_first]

/-- At a point between it is the block's token sum over the scratch of the point before. -/
theorem scratch_B (c : Dev nD) (t : Fin cfg0.N) (h0 : ¬t.val % 16 = 0) (h1 : ¬t.val % 16 = 15) :
    (outsAt0 m c t.val t.isLt).2.2.2
      = k0_pay2 (outsAt0 m c (t.val - 1) (Nat.lt_of_le_of_lt (Nat.sub_le _ _) t.isLt)).2.2.2 (iblk m c 0 t) := by
  rw [outsAt0_B m c t h0 h1]
  dsimp only
  rw [scratch_next]

/-- At the last point the results are the body's stored values at the finished scratch. -/
theorem outs_C (c : Dev nD) (t : Fin cfg0.N) (h0 : ¬t.val % 16 = 0) (h1 : t.val % 16 = 15)
    (acc : Vec F S2x4096 .f32)
    (hacc : (outsAt0 m c (t.val - 1) (Nat.lt_of_le_of_lt (Nat.sub_le _ _) t.isLt)).2.2.2 = acc) :
    (outsAt0 m c t.val t.isLt).1 = k0_pay5 (k0_pay2 acc (iblk m c 0 t)) (iblk m c 1 t) (iblk m c 2 t)
    ∧ (outsAt0 m c t.val t.isLt).2.1
      = k0_pay7 (k0_pay2 acc (iblk m c 0 t)) (iblk m c 1 t) (iblk m c 2 t) (iblk m c 3 t)
    ∧ (outsAt0 m c t.val t.isLt).2.2.1 = k0_pay6 (k0_pay2 acc (iblk m c 0 t)) (iblk m c 1 t) (iblk m c 2 t) := by
  subst hacc
  rw [outsAt0_C m c t h0 h1]
  dsimp only
  rw [logp_last, sel_last, pred_last]
  exact ⟨rfl, rfl, rfl⟩

/-- The scratch after point `n`: the token sums of the blocks up to `n`, added in the grid's order to zero. -/
def accum (c : Dev nD) : (n : ℕ) → n < cfg0.N → Vec F S2x4096 .f32
  | 0, h => k0_pay2 k0_pay1 (iblk m c 0 ⟨0, h⟩)
  | n + 1, h => k0_pay2 (accum c n (Nat.lt_of_succ_lt h)) (iblk m c 0 ⟨n + 1, h⟩)

/-- Before the last point the frame's account of the scratch is `accum`. -/
theorem scratch_eq (c : Dev nD) : ∀ (n : ℕ) (h : n < cfg0.N), n < 15 → (outsAt0 m c n h).2.2.2 = accum m c n h
  | 0, h, _ => scratch_A m c ⟨0, h⟩ (Nat.zero_mod _) (by show ¬(0 % 16 = 15); decide)
  | n + 1, h, hn => (scratch_B m c ⟨n + 1, h⟩ (by show ¬((n + 1) % 16 = 0); omega) (by show ¬((n + 1) % 16 = 15); omega)).trans
      (congrArg (fun a => k0_pay2 a (iblk m c 0 ⟨n + 1, h⟩)) (scratch_eq c n (Nat.lt_of_succ_lt h) (by omega)))

theorem lt15 : 15 < cfg0.N := lt_of_lt_of_eq (by decide) N_0.symm

/-- The last point. -/
abbrev tLast : Fin cfg0.N := ⟨15, lt15⟩

/-- The finished scratch. -/
abbrev total (c : Dev nD) : Vec F S2x4096 .f32 := accum m c 15 lt15

/-- The last point's results, each a body's stored value at the finished scratch. -/
theorem outs_last (c : Dev nD) :
    (outsAt0 m c 15 lt15).1 = k0_pay5 (total m c) (iblk m c 1 tLast) (iblk m c 2 tLast)
    ∧ (outsAt0 m c 15 lt15).2.1 = k0_pay7 (total m c) (iblk m c 1 tLast) (iblk m c 2 tLast) (iblk m c 3 tLast)
    ∧ (outsAt0 m c 15 lt15).2.2.1 = k0_pay6 (total m c) (iblk m c 1 tLast) (iblk m c 2 tLast) :=
  outs_C m c tLast (by show ¬(15 % 16 = 0); decide) (by show 15 % 16 = 15; decide) (accum m c 14 (Nat.lt_of_succ_lt lt15))
    (scratch_eq m c 14 _ (by decide))

/-- The run, read: the three results at the finished scratch, the arguments unchanged. -/
theorem run : θ_run defs (onTc (τ := τ) (main (F := F))) ⟨m, fun _ => 0, ρ⟩ fun r => ∀ c : Dev nD,
      r.2.mem ((c : Thread nD τ).loc main_v1_0) = k0_pay5 (total m c) (iblk m c 1 tLast) (iblk m c 2 tLast)
      ∧ r.2.mem ((c : Thread nD τ).loc main_v1_1)
        = k0_pay7 (total m c) (iblk m c 1 tLast) (iblk m c 2 tLast) (iblk m c 3 tLast)
      ∧ r.2.mem ((c : Thread nD τ).loc main_v1_2) = k0_pay6 (total m c) (iblk m c 1 tLast) (iblk m c 2 tLast)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run m ρ)
  obtain ⟨e4, e5, e6, rest⟩ := h c
  obtain ⟨o4, o5, o6⟩ := outs_last m c
  rw [Value.G4_last, ← Value.outsAt0_sweep m c 15 lt15] at e4
  rw [Value.G5_last, ← Value.outsAt0_sweep m c 15 lt15] at e5
  rw [Value.G6_last, ← Value.outsAt0_sweep m c 15 lt15] at e6
  exact ⟨e4.trans o4, e5.trans o5, e6.trans o6, rest⟩

/-! ## The input blocks -/

theorem idx_x : ∀ t : Fin cfg0.N, win0_0.index t = ![0, t.val, 0] := by decide +kernel
theorem idx_w : ∀ t : Fin cfg0.N, win0_1.index t = ![0, 0] := by decide +kernel
theorem idx_b : ∀ t : Fin cfg0.N, win0_2.index t = ![0, 0] := by decide +kernel
theorem idx_s : ∀ t : Fin cfg0.N, win0_3.index t = ![0, 0] := by decide +kernel

theorem row_lt (t : Fin cfg0.N) (r : Fin 256) : 256 * t.val + r.val < 4096 := by
  have := lt_of_lt_of_eq t.isLt N_0
  omega

/-- The activations' block at point `t` is the tokens from `256 t` on. -/
theorem blk_x (c : Dev nD) (t : Fin cfg0.N) (b : Fin 2) (r : Fin 256) (d : Fin 4096) :
    (iblk m c 0 t : Vec F S2x256x4096 .f32) (ix3 b r d)
      = (m ((c : Thread nD τ).loc main_arg0) : Vec F S2x4096x4096 .f32) (ix3 b ⟨256 * t.val + r.val, row_lt t r⟩ d) := by
  blk_ext [iblk, V, idx_x t]

/-- The weights' block is the weights. -/
theorem blk_w (c : Dev nD) (t : Fin cfg0.N) (k : Fin 120) (d : Fin 4096) :
    (iblk m c 1 t : Vec F S120x4096 .f32) (ix2 k d)
      = (m ((c : Thread nD τ).loc main_arg2) : Vec F S120x4096 .f32) (ix2 k d) := by
  blk_ext [iblk, V, idx_w t]

/-- The bias's block is the bias. -/
theorem blk_b (c : Dev nD) (t : Fin cfg0.N) (k : Fin 120) :
    (iblk m c 2 t : Vec F S1x120 .f32) (ix2 0 k) = (m ((c : Thread nD τ).loc main_arg3) : Vec F S120 .f32) (ix1 k) := by
  blk_simp [iblk]
  entry_read
  pointwise
  blk_ext [idx_b t]

/-- The table's block is the table. -/
theorem blk_s (c : Dev nD) (t : Fin cfg0.N) (s : Fin 2) (k : Fin 120) :
    (iblk m c 3 t : Vec F S2x120 .i32) (ix2 s k) = lit0 (S2x120.rowMajor (ix2 s k)) := by
  blk_ext [iblk, V, idx_s t]

end Cert.KernelIdeal.Out

end
-- ==== Proof.FirstMax.lean ====
/-
  The first place of a row's largest entry.

  `IsFirst f k` says that `f k` is the largest of `f`'s entries and that no earlier entry equals it. At most one place is
  that (`IsFirst.unique`). Two ways of finding it are read here: the smallest of the indices whose entry equals the row's
  maximum, others standing as the row's length (`fold_min_isFirst`), and one pass that keeps the better of two pairs
  (entry, index), started at the pair (-∞, 0) (`foldl_better`).
-/
module

public import Idealize.ShloMosaic.PureOps
public import Idealize.ShloMosaic.PureOps.Ideal.Laws

@[expose] public section

noncomputable section

open Idealize.ShloMosaic

namespace Cert.Proof

/-- The row's largest entry is at `k`, and at no place before `k`. -/
def IsFirst (f : Fin 120 → EReal) (k : Fin 120) : Prop := (∀ i, f i ≤ f k) ∧ ∀ i, f i = f k → k ≤ i

theorem IsFirst.unique {f : Fin 120 → EReal} {k l : Fin 120} (hk : IsFirst f k) (hl : IsFirst f l) : k = l := by
  have e : f k = f l := le_antisymm (hl.1 k) (hk.1 l)
  exact le_antisymm (hk.2 l e.symm) (hl.2 k e)

/-- The row's maximum, started at -∞. -/
abbrev top (f : Fin 120 → EReal) : EReal := Finset.univ.fold max ⊥ f

theorem le_top (f : Fin 120 → EReal) (i : Fin 120) : f i ≤ top f :=
  (Finset.le_fold_max (f i)).2 (Or.inr ⟨i, Finset.mem_univ i, le_rfl⟩)

theorem exists_top (f : Fin 120 → EReal) : ∃ k, f k = top f := by
  obtain ⟨k, -, hk⟩ := Finset.exists_max_image (Finset.univ : Finset (Fin 120)) f ⟨0, Finset.mem_univ 0⟩
  refine ⟨k, le_antisymm (le_top f k) ?_⟩
  exact (Finset.fold_max_le (f k)).2 ⟨bot_le, fun i hi => hk i hi⟩

/-- The first place of the maximum exists. -/
theorem exists_isFirst (f : Fin 120 → EReal) : ∃ k, IsFirst f k ∧ f k = top f := by
  classical
  obtain ⟨k₀, h₀⟩ := exists_top f
  have hne : (Finset.univ.filter fun k => f k = top f).Nonempty := ⟨k₀, by simp [h₀]⟩
  refine ⟨(Finset.univ.filter fun k => f k = top f).min' hne, ?_, ?_⟩
  · have hm := Finset.mem_filter.1 (Finset.min'_mem _ hne)
    refine ⟨fun i => (le_top f i).trans hm.2.symm.le, fun i hi => Finset.min'_le _ _ ?_⟩
    exact Finset.mem_filter.2 ⟨Finset.mem_univ i, hi.trans hm.2⟩
  · exact (Finset.mem_filter.1 (Finset.min'_mem _ hne)).2

theorem toInt_small (n : ℕ) (h : n ≤ 120) : (BitVec.ofNat 32 n).toInt = n := by
  rw [BitVec.toInt_eq_toNat_cond, BitVec.toNat_ofNat]
  have e : n % 2 ^ 32 = n := Nat.mod_eq_of_lt (by omega)
  rw [e, if_pos (by omega)]

theorem toInt_minsi (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.1 h)]

/-- The smallest index whose entry equals the maximum is the first place of the maximum. -/
theorem fold_min_isFirst (f : Fin 120 → EReal) (g : Fin 120 → BitVec 32)
    (hg : ∀ i, g i = if f i = top f then BitVec.ofNat 32 i.val else 120#32) (k : Fin 120) (hk : IsFirst f k) :
    Finset.univ.fold IntOp.minsi 2147483647#32 g = BitVec.ofNat 32 k.val := by
  apply BitVec.eq_of_toInt_eq
  have hom : (Finset.univ.fold IntOp.minsi 2147483647#32 g).toInt
      = Finset.univ.fold min (2147483647#32 : BitVec 32).toInt fun i => (g i).toInt :=
    (Finset.fold_hom (op := IntOp.minsi) (op' := (min : ℤ → ℤ → ℤ)) (m := BitVec.toInt) toInt_minsi).symm
  obtain ⟨k', hk', ht⟩ := exists_isFirst f
  obtain rfl := hk.unique hk'
  rw [hom, toInt_small k.val (by omega)]
  apply le_antisymm
  · refine (Finset.fold_min_le _).2 (Or.inr ⟨k, Finset.mem_univ k, ?_⟩)
    rw [hg, if_pos ht, toInt_small k.val (by omega)]
  · refine (Finset.le_fold_min _).2 ⟨?_, fun i _ => ?_⟩
    · have : (2147483647#32 : BitVec 32).toInt = 2147483647 := by decide
      rw [this]; omega
    · rw [hg]
      split
      · rename_i h
        rw [toInt_small i.val (by omega)]
        have := hk.2 i (h.trans ht.symm)
        exact_mod_cast this
      · have : (120#32 : BitVec 32).toInt = 120 := by decide
        rw [this]; omega

/-! ## One pass over (entry, index) pairs -/

/-- A pair with a larger entry, or an equal one and an index no larger. -/
def Better (a b : EReal × BitVec 32) : Prop := b.1 < a.1 ∨ a.1 = b.1 ∧ a.2.toInt ≤ b.2.toInt

theorem Better.refl (a : EReal × BitVec 32) : Better a a := Or.inr ⟨rfl, le_rfl⟩

theorem Better.trans {a b c : EReal × BitVec 32} (h₁ : Better a b) (h₂ : Better b c) : Better a c := by
  rcases h₁ with h₁ | ⟨e₁, h₁⟩ <;> rcases h₂ with h₂ | ⟨e₂, h₂⟩
  · exact Or.inl (h₂.trans h₁)
  · exact Or.inl (e₂ ▸ h₁)
  · exact Or.inl (e₁ ▸ h₂)
  · exact Or.inr ⟨e₁.trans e₂, h₁.trans h₂⟩

/-- A step that keeps one of its two pairs, the better one. -/
def Keeps (op : EReal × BitVec 32 → EReal × BitVec 32 → EReal × BitVec 32) : Prop :=
  ∀ a b, (op a b = a ∨ op a b = b) ∧ Better (op a b) a ∧ Better (op a b) b

/-- What the pass ends with is one of the pairs it saw, and is better than each of them. -/
theorem foldl_better {op : EReal × BitVec 32 → EReal × BitVec 32 → EReal × BitVec 32} (hop : Keeps op) :
    ∀ (L : List (EReal × BitVec 32)) (a : EReal × BitVec 32),
      (L.foldl op a = a ∨ L.foldl op a ∈ L) ∧ Better (L.foldl op a) a ∧ ∀ p ∈ L, Better (L.foldl op a) p
  | [], a => ⟨Or.inl rfl, Better.refl a, by simp⟩
  | b :: L, a => by
    obtain ⟨hm, hb, hL⟩ := foldl_better hop L (op a b)
    obtain ⟨ho, ha, hb'⟩ := hop a b
    rw [List.foldl_cons]
    refine ⟨?_, hb.trans ha, fun p hp => ?_⟩
    · rcases hm with hm | hm
      · rw [hm]
        rcases ho with ho | ho
        · exact Or.inl ho
        · exact Or.inr (by rw [ho]; exact List.mem_cons_self)
      · exact Or.inr (List.mem_cons_of_mem _ hm)
    · rcases List.mem_cons.1 hp with rfl | hp
      · exact hb.trans hb'
      · exact hL p hp

/-- Over a list that holds the pair of each place and nothing else, the pass started at (-∞, 0) ends with the index of the
    first place of the maximum. -/
theorem foldl_isFirst {op : EReal × BitVec 32 → EReal × BitVec 32 → EReal × BitVec 32} (hop : Keeps op)
    (f : Fin 120 → EReal) (L : List (EReal × BitVec 32)) (hin : ∀ k : Fin 120, (f k, BitVec.ofNat 32 k.val) ∈ L)
    (hout : ∀ p ∈ L, ∃ k : Fin 120, p = (f k, BitVec.ofNat 32 k.val)) (k : Fin 120) (hk : IsFirst f k) :
    (L.foldl op (⊥, 0#32)).2 = BitVec.ofNat 32 k.val := by
  obtain ⟨hm, hb, hL⟩ := foldl_better hop L (⊥, 0#32)
  have hbk := hL _ (hin k)
  rcases hm with hm | hm
  · rw [hm] at hbk ⊢
    rcases hbk with h | ⟨e, h⟩
    · exact absurd h not_lt_bot
    · dsimp only at h e ⊢
      have : k = 0 := by
        have := hk.2 0 (le_antisymm (hk.1 0) (e ▸ bot_le))
        exact le_antisymm this (Fin.zero_le k)
      rw [this]; rfl
  · obtain ⟨l, hl⟩ := hout _ hm
    rw [hl] at hbk hL ⊢
    have hfirst : IsFirst f l := by
      refine ⟨fun i => ?_, fun i hi => ?_⟩
      · rcases hL _ (hin i) with h | ⟨h, -⟩
        · exact h.le
        · exact h.symm.le
      · rcases hL _ (hin i) with h | ⟨-, h⟩
        · exact absurd hi (ne_of_lt h)
        · dsimp only at h
          rw [toInt_small _ (by omega), toInt_small _ (by omega)] at h
          exact_mod_cast h
    rw [hfirst.unique hk]

end Cert.Proof

end
-- ==== Proof.PayloadMath.lean ====
/-
  What the kernel's blocks of arithmetic give at an index, over the extended reals.
-/
module

public import proofs.«01_k».proof.Proof.KernelValue
public import proofs.«01_k».proof.Proof.FirstMax
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem

namespace Cert.Proof

theorem negInf : Ideal.ofBits .f32 4286578688#32 = (⊥ : EReal) := by
  simp [Ideal.ofBits, Ideal.ieee]

/-- A row's log-softmax, as both programs take it: the entry less the row's maximum, less the log of the sum of the
    exponentials of such differences. -/
def logSoft (f : Fin 120 → EReal) (k : Fin 120) : EReal :=
  f k - top f - Ideal.log (∑ x : Fin 120, Ideal.exp (f x - top f))

end Cert.Proof

namespace Cert.KernelIdeal.Out

open Cert.KernelIdeal Cert.KernelIdeal.Gen Cert.Proof

theorem pay1_apply (b : Fin 2) (d : Fin 4096) : (k0_pay1 (F := Ideal)) (ix2 b d) = (0 : EReal) := by
  unfold k0_pay1
  pointwise

theorem pay2_apply (acc : Vec Ideal S2x4096 .f32) (x : Vec Ideal S2x256x4096 .f32) (b : Fin 2) (d : Fin 4096) :
    k0_pay2 acc x (ix2 b d) = acc (ix2 b d) + ∑ r : Fin 256, x (ix3 b r d) := by
  unfold k0_pay2
  pointwise

theorem pay3_apply (xs : Vec Ideal S2x4096 .f32) (w : Vec Ideal S120x4096 .f32) (b : Vec Ideal S1x120 .f32) (i : Fin 2) (k : Fin 120) :
    k0_pay3 xs w b (ix2 i k) = ∑ d : Fin 4096, xs (ix2 i d) * w (ix2 k d) + b (ix2 0 k) := by
  unfold k0_pay3
  pointwise

theorem pay5_apply (xs : Vec Ideal S2x4096 .f32) (w : Vec Ideal S120x4096 .f32) (b : Vec Ideal S1x120 .f32) (i : Fin 2) (k : Fin 120) :
    k0_pay5 xs w b (ix3 i 0 k) = logSoft (fun x => k0_pay3 xs w b (ix2 i x)) k := by
  unfold k0_pay5 k0_pay4
  generalize k0_pay3 xs w b = l
  pointwise
  rw [negInf]
  rfl

theorem pay6_apply (xs : Vec Ideal S2x4096 .f32) (w : Vec Ideal S120x4096 .f32) (b : Vec Ideal S1x120 .f32) (i : Fin 2) (k : Fin 120)
    (hk : IsFirst (fun x => k0_pay3 xs w b (ix2 i x)) k) : k0_pay6 xs w b (ix2 i 0) = BitVec.ofNat 32 k.val := by
  unfold k0_pay6 k0_pay4
  generalize k0_pay3 xs w b = l at hk ⊢
  pointwise
  rw [negInf]
  exact fold_min_isFirst _ _ (fun _ => rfl) k hk

theorem onehot (n : ℕ) (k : Fin 120) (h : n < 120) :
    BitVec.setWidth 32 (IntOp.cmpi .eq (BitVec.ofNat 32 n) (BitVec.ofNat 32 k.val)) = if n = k.val then 1#32 else 0#32 := by
  have e : (BitVec.ofNat 32 n = BitVec.ofNat 32 k.val) ↔ n = k.val := by
    constructor
    · intro he
      have := congrArg BitVec.toInt he
      rw [toInt_small n (by omega), toInt_small k.val (by omega)] at this
      exact_mod_cast this
    · rintro rfl; rfl
  by_cases h' : n = k.val
  · rw [if_pos h', h']
    simp [IntOp.cmpi]
  · rw [if_neg h']
    have : (BitVec.ofNat 32 n == BitVec.ofNat 32 k.val) = false := by
      rw [beq_eq_false_iff_ne]; exact fun he => h' (e.1 he)
    simp only [IntOp.cmpi, this]
    rfl

/-- A sum whose terms but one are zero. -/
theorem fold_single (g : Fin 120 → BitVec 32) (k : Fin 120) (h : ∀ x, x ≠ k → g x = 0#32) :
    Finset.univ.fold IntOp.addi 0#32 g = g k := by
  have hz : ∀ s : Finset (Fin 120), k ∉ s → s.fold IntOp.addi 0#32 g = 0#32 := by
    intro s
    induction s using Finset.induction_on with
    | empty => intro _; rfl
    | insert a s ha ih =>
      intro hk
      rw [Finset.fold_insert ha, ih (fun h' => hk (Finset.mem_insert_of_mem h')),
        h a (fun h' => hk (h' ▸ Finset.mem_insert_self a s))]
      rfl
  rw [← Finset.insert_erase (Finset.mem_univ k), Finset.fold_insert (Finset.notMem_erase k _), hz _ (Finset.notMem_erase k _)]
  exact BitVec.add_zero _

/-- The one-hot row times the table: the table's entry at the hot place. -/
theorem pay7_apply (xs : Vec Ideal S2x4096 .f32) (w : Vec Ideal S120x4096 .f32) (b : Vec Ideal S1x120 .f32) (s : Vec Ideal S2x120 .i32)
    (i j : Fin 2) (k : Fin 120) (hq : k0_pay6 xs w b (ix2 i 0) = BitVec.ofNat 32 k.val) :
    k0_pay7 xs w b s (ix2 i j) = s (ix2 j k) := by
  unfold k0_pay7
  generalize k0_pay6 xs w b = q at hq ⊢
  pointwise
  rw [hq]
  rw [fold_single _ k]
  · rw [onehot _ _ k.isLt, if_pos rfl]
    exact BitVec.one_mul _
  · intro x hx
    rw [onehot _ _ x.isLt, if_neg (fun h => hx (Fin.ext h))]
    exact BitVec.zero_mul

end Cert.KernelIdeal.Out

end
-- ==== Proof.Total.lean ====
/-
  The kernel's running sum, read: after its last grid point it holds, at each lane, the sum over all the tokens. Each grid
  point adds the sum over its own 256 tokens.
-/
module

public import proofs.«01_k».proof.Proof.PayloadMath

@[expose] public section

set_option maxRecDepth 16384

noncomputable section

open Idealize.ShloMosaic Idealize.ShloMosaic.TcCoe Idealize.SL.Sem

namespace Cert.KernelIdeal.Out

open Cert.KernelIdeal Cert.KernelIdeal.Gen Cert.Proof

variable (m : (ℓ : Loc nD τ sig) → Buf (Elt Ideal) ℓ) (c : Dev nD)

/-- The tokens as the launch finds them. -/
def tokens : FVec Ideal S2x4096x4096 .f32 := m ((c : Thread nD τ).loc main_arg0)

/-- The tokens a grid point is given. -/
def tokBlock (t : Fin cfg0.N) : FVec Ideal S2x256x4096 .f32 := iblk m c 0 t

theorem tokBlock_apply (t : Fin cfg0.N) (b : Fin 2) (r : Fin 256) (d : Fin 4096) :
    tokBlock m c t (ix3 b r d) = tokens m c (ix3 b ⟨256 * t.val + r.val, row_lt t r⟩ d) := blk_x m c t b r d

/-- The tokens' entries at one lane, by the token's number, zero past the last. -/
def tok (b : Fin 2) (d : Fin 4096) (n : ℕ) : EReal :=
  if h : n < 4096 then tokens m c (ix3 b ⟨n, h⟩ d) else 0

theorem accum_apply (b : Fin 2) (d : Fin 4096) : ∀ (n : ℕ) (h : n < cfg0.N),
    accum m c n h (ix2 b d) = ∑ t ∈ Finset.range (256 * (n + 1)), tok m c b d t := by
  have hblk : ∀ (n : ℕ) (h : n < cfg0.N), (∑ r : Fin 256, tokBlock m c ⟨n, h⟩ (ix3 b r d))
      = ∑ r ∈ Finset.range 256, tok m c b d (256 * n + r) := by
    intro n h
    rw [Finset.sum_range]
    refine Finset.sum_congr rfl fun r _ => ?_
    rw [tokBlock_apply, tok, dif_pos (row_lt ⟨n, h⟩ r)]
  intro n
  induction n with
  | zero =>
    intro h
    show k0_pay2 (F := Ideal) (k0_pay1 (F := Ideal)) (tokBlock m c ⟨0, h⟩) (ix2 b d) = _
    rw [pay2_apply, pay1_apply, hblk, zero_add]
    simp only [Nat.mul_zero, Nat.zero_add, Nat.mul_one]
  | succ n ih =>
    intro h
    show k0_pay2 (F := Ideal) (accum m c n _) (tokBlock m c ⟨n + 1, h⟩) (ix2 b d) = _
    rw [pay2_apply, ih, hblk, show 256 * (n + 1 + 1) = 256 * (n + 1) + 256 from by ring, Finset.sum_range_add]

/-- The sum over all the tokens. -/
theorem total_apply (b : Fin 2) (d : Fin 4096) :
    total m c (ix2 b d) = ∑ t : Fin 4096, tokens m c (ix3 b t d) := by
  refine (accum_apply m c b d 15 lt15).trans ?_
  rw [show 256 * (15 + 1) = 4096 from rfl, Finset.sum_range]
  refine Finset.sum_congr rfl fun t _ => ?_
  rw [tok, dif_pos t.isLt]

end Cert.KernelIdeal.Out

end
-- ==== Proof.RefRun.lean ====
/-
  The run of the reference program: its forty-four operations, in order, the two called functions' among them, and what
  each of the three result buffers ends holding, stated in stages (`pooled`, `logits`, `logits3`, `logp`, `pred`, `sel`).
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.ReferenceIdeal.Out

open Cert.ReferenceIdeal Cert.ReferenceIdeal.Gen
open Idealize.ShloMosaic Idealize.ShloMosaic.TcCoe Idealize.ShloMosaic.StableHlo Idealize.SL.Sem

variable {F : FTy → Type} [FloatOps F]

/-- The operations, in order. -/
abbrev ops : List (HloOp τ sig (Elt F)) :=
  [ nullary main_c (fun i => lit0 (S120x2.rowMajor i)),
    unary main_arg1 main_v0 noti,
    unary main_v0 main_v1 (uitofp .f32),
    reshape main_v1 main_v2 rfl shapeCasts_S2x4096_S2x4096x1,
    unary main_v2 main_v3 (broadcastInDim S2x4096x4096 ![0, 1, 2] bcast_S2x4096x1_S2x4096x4096_0_1_2),
    binary main_arg0 main_v3 main_v4 mulf,
    nullary main_cst (constant S_ .f32 0x00000000#32),
    binary main_v4 main_cst main_v5 (fun x v => Host.reduceAdd x v reducesTo_S2x4096x4096_S2x4096_d1 h_S_),
    unary main_arg2 main_v6 (transpose S4096x120 [1, 0] · transposes_S120x4096_S4096x120_1_0),
    binary main_v5 main_v6 main_v7 (fun l r => Host.dotGeneral dot_S2x4096_S4096x120_S2x120_1_0_0_1_n_n none l r),
    unary main_arg3 main_v8 (broadcastInDim S1x120 ![1] bcast_S120_S1x120_1),
    unary main_v8 main_v9 (broadcastInDim S2x120 ![0, 1] bcast_S1x120_S2x120_0_1),
    binary main_v7 main_v9 main_v10 addf,
    unary main_v10 main_v11 (broadcastInDim S2x1x120 ![0, 2] bcast_S2x120_S2x1x120_0_2),
    nullary main_call0_cst (constant S_ .f32 0xFF800000#32),
    binary main_v11 main_call0_cst main_call0_v0 (fun x v => Host.reduce FloatOps.maximumf x v reducesTo_S2x1x120_S2x1_d2 h_S_),
    nullary main_call0_cst_0 (constant S_ .f32 0xFF800000#32),
    unary main_call0_cst_0 main_call0_v1 (broadcastInDim S2x1 ![] bcast_S_S2x1),
    binary main_call0_v1 main_call0_v0 main_call0_v2 maximumf,
    unary main_call0_v2 main_call0_v3 (broadcastInDim S2x1x1 ![0, 1] bcast_S2x1_S2x1x1_0_1),
    unary main_call0_v3 main_call0_v4 (broadcastInDim S2x1x120 ![0, 1, 2] bcast_S2x1x1_S2x1x120_0_1_2),
    binary main_v11 main_call0_v4 main_call0_v5 subf,
    unary main_call0_v5 main_call0_v6 Host.exp,
    nullary main_call0_cst_1 (constant S_ .f32 0x00000000#32),
    binary main_call0_v6 main_call0_cst_1 main_call0_v7 (fun x v => Host.reduceAdd x v reducesTo_S2x1x120_S2x1_d2 h_S_),
    unary main_call0_v7 main_call0_v8 (broadcastInDim S2x1x1 ![0, 1] bcast_S2x1_S2x1x1_0_1),
    unary main_call0_v8 main_call0_v9 Host.log,
    unary main_call0_v9 main_call0_v10 (broadcastInDim S2x1x120 ![0, 1, 2] bcast_S2x1x1_S2x1x120_0_1_2),
    binary main_call0_v5 main_call0_v10 main_v12 subf,
    nullary main_call1_v0 (iotaInDim S2x1x120 32 2),
    nullary main_call1_cst (constant S_ .f32 0xFF800000#32),
    nullary main_call1_c (constantI S_ 32 0#32),
    quaternary main_v11 main_call1_v0 main_call1_cst main_call1_c main_call1_v1_0
      (fun x y u v j => (Host.argReduce reducer_argmax_f32_i32 x y u v reducesTo_S2x1x120_S2x1_d2 h_S_ j).1),
    quaternary main_v11 main_call1_v0 main_call1_cst main_call1_c main_v13
      (fun x y u v j => (Host.argReduce reducer_argmax_f32_i32 x y u v reducesTo_S2x1x120_S2x1_d2 h_S_ j).2),
    nullary main_c_0 (constantI S_ 32 0#32),
    unary main_c_0 main_v14 (broadcastInDim S2x1 ![] bcast_S_S2x1),
    binary main_v13 main_v14 main_v15 (cmpi .slt),
    nullary main_c_1 (constantI S_ 32 120#32),
    unary main_c_1 main_v16 (broadcastInDim S2x1 ![] bcast_S_S2x1),
    binary main_v13 main_v16 main_v17 addi,
    ternary main_v15 main_v17 main_v13 main_v18 select,
    unary main_v18 main_v19 (broadcastInDim S2x1x1 ![0, 1] bcast_S2x1_S2x1x1_0_1),
    binary main_c main_v19 main_v20 (fun x i => Host.gather gather_S120x2_S2x1x1_S2x1x2_2_0_n_n_0_2_12 x i),
    reshape main_v20 main_v21 rfl shapeCasts_S2x1x2_S2x2 ]

set_option maxRecDepth 65536 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., reshape_bufs_sub .., unary_bufs_sub .., binary_bufs_sub ..,
    nullary_bufs_sub .., binary_bufs_sub .., unary_bufs_sub .., binary_bufs_sub .., unary_bufs_sub .., unary_bufs_sub ..,
    binary_bufs_sub .., unary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., unary_bufs_sub .., binary_bufs_sub .., nullary_bufs_sub ..,
    nullary_bufs_sub .., nullary_bufs_sub .., quaternary_bufs_sub .., quaternary_bufs_sub .., nullary_bufs_sub ..,
    unary_bufs_sub .., binary_bufs_sub .., nullary_bufs_sub .., unary_bufs_sub .., binary_bufs_sub .., ternary_bufs_sub ..,
    unary_bufs_sub .., binary_bufs_sub .., reshape_bufs_sub ..⟩

/-! ## The results, in stages -/

/-- The pooled vector: the masked sum over the tokens. -/
def pooled (x : FVec F S2x4096x4096 .f32) (p : IVec S2x4096 1) : FVec F S2x4096 .f32 :=
  Host.reduceAdd (mulf x (broadcastInDim S2x4096x4096 ![0, 1, 2] bcast_S2x4096x1_S2x4096x4096_0_1_2
      (shapeCast S2x4096x1 (uitofp .f32 (noti p)) shapeCasts_S2x4096_S2x4096x1)))
    (constant S_ .f32 0x00000000#32) reducesTo_S2x4096x4096_S2x4096_d1 h_S_

/-- The logits: the pooled vector times the transposed weights, plus the bias. -/
def logits (x : FVec F S2x4096x4096 .f32) (p : IVec S2x4096 1) (w : FVec F S120x4096 .f32) (b : FVec F S120 .f32) : FVec F S2x120 .f32 :=
  addf (Host.dotGeneral dot_S2x4096_S4096x120_S2x120_1_0_0_1_n_n none (pooled x p)
      (transpose S4096x120 [1, 0] w transposes_S120x4096_S4096x120_1_0))
    (broadcastInDim S2x120 ![0, 1] bcast_S1x120_S2x120_0_1 (broadcastInDim S1x120 ![1] bcast_S120_S1x120_1 b))

/-- The logits with a middle axis of one. -/
def logits3 (l : FVec F S2x120 .f32) : FVec F S2x1x120 .f32 :=
  broadcastInDim S2x1x120 ![0, 2] bcast_S2x120_S2x1x120_0_2 l

/-- The logits less their row's largest. -/
def shifted (l : FVec F S2x1x120 .f32) : FVec F S2x1x120 .f32 :=
  subf l (broadcastInDim S2x1x120 ![0, 1, 2] bcast_S2x1x1_S2x1x120_0_1_2 (broadcastInDim S2x1x1 ![0, 1] bcast_S2x1_S2x1x1_0_1
    (maximumf (broadcastInDim S2x1 ![] bcast_S_S2x1 (constant S_ .f32 0xFF800000#32))
      (Host.reduce FloatOps.maximumf l (constant S_ .f32 0xFF800000#32) reducesTo_S2x1x120_S2x1_d2 h_S_))))

/-- The log-probabilities. -/
def logp (l : FVec F S2x1x120 .f32) : FVec F S2x1x120 .f32 :=
  subf (shifted l) (broadcastInDim S2x1x120 ![0, 1, 2] bcast_S2x1x1_S2x1x120_0_1_2 (Host.log
    (broadcastInDim S2x1x1 ![0, 1] bcast_S2x1_S2x1x1_0_1
      (Host.reduceAdd (Host.exp (shifted l)) (constant S_ .f32 0x00000000#32) reducesTo_S2x1x120_S2x1_d2 h_S_))))

/-- The predicted class. -/
def pred (l : FVec F S2x1x120 .f32) : IVec S2x1 32 :=
  fun j => (Host.argReduce reducer_argmax_f32_i32 l (iotaInDim S2x1x120 32 2) (constant S_ .f32 0xFF800000#32)
    (constantI S_ 32 0#32) reducesTo_S2x1x120_S2x1_d2 h_S_ j).2

/-- The predicted class's row of the table, an index below zero counted from the table's end. -/
def sel (q : IVec S2x1 32) : IVec S2x2 32 :=
  shapeCast S2x2 (Host.gather gather_S120x2_S2x1x1_S2x1x2_2_0_n_n_0_2_12 (fun i => lit0 (S120x2.rowMajor i))
    (broadcastInDim S2x1x1 ![0, 1] bcast_S2x1_S2x1x1_0_1
      (select (cmpi .slt q (broadcastInDim S2x1 ![] bcast_S_S2x1 (constantI S_ 32 0#32)))
        (addi q (broadcastInDim S2x1 ![] bcast_S_S2x1 (constantI S_ 32 120#32))) q))) shapeCasts_S2x1x2_S2x2

/-! ## The run -/

section
variable (m : (ℓ : Loc nD τ sig) → Buf (Elt F) ℓ) (c : Dev nD)

/-- The logits over the arguments' launch contents. -/
abbrev lg : FVec F S2x1x120 .f32 :=
  logits3 (logits (m ((c : Thread nD τ).loc main_arg0)) (m ((c : Thread nD τ).loc main_arg1))
    (m ((c : Thread nD τ).loc main_arg2)) (m ((c : Thread nD τ).loc main_arg3)))

theorem after_logp : after ops (launchContents m c) (Proc.devRef .tc main_v12) = logp (lg m c) := by
  after_results_simp
  rfl

theorem after_pred : after ops (launchContents m c) (Proc.devRef .tc main_v13) = pred (lg m c) := by
  after_results_simp
  rfl

theorem after_sel : after ops (launchContents m c) (Proc.devRef .tc main_v21) = sel (pred (lg m c)) := by
  after_results_simp
  rfl

theorem after_arg0 : after ops (launchContents m c) (Proc.devRef .tc main_arg0) = m ((c : Thread nD τ).loc main_arg0) := by
  after_results_simp
theorem after_arg1 : after ops (launchContents m c) (Proc.devRef .tc main_arg1) = m ((c : Thread nD τ).loc main_arg1) := by
  after_results_simp
theorem after_arg2 : after ops (launchContents m c) (Proc.devRef .tc main_arg2) = m ((c : Thread nD τ).loc main_arg2) := by
  after_results_simp
theorem after_arg3 : after ops (launchContents m c) (Proc.devRef .tc main_arg3) = m ((c : Thread nD τ).loc main_arg3) := by
  after_results_simp

end

variable (m : (ℓ : Loc nD τ sig) → Buf (Elt F) ℓ) (ρ : Dev nD → PrngReg)

/-- The run, read: the three results, the arguments unchanged, every counter back at zero. -/
theorem run : θ_run defs (onTc (τ := τ) (main (F := F))) ⟨m, fun _ => 0, ρ⟩ fun r => (∀ c : Dev nD,
      r.2.mem ((c : Thread nD τ).loc main_v12) = logp (lg m c)
      ∧ r.2.mem ((c : Thread nD τ).loc main_v21) = sel (pred (lg m c))
      ∧ r.2.mem ((c : Thread nD τ).loc main_v13) = pred (lg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0 :=
  (θ_run defs _ _).mono (fun r h => ⟨fun c => ⟨(h c main_v12).trans (after_logp m c), (h c main_v21).trans (after_sel m c),
      (h c main_v13).trans (after_pred m c), (h c main_arg0).trans (after_arg0 m c), (h c main_arg1).trans (after_arg1 m c),
      (h c main_arg2).trans (after_arg2 m c), (h c main_arg3).trans (after_arg3 m c)⟩,
      Idealize.ShloMosaic.sem_eq_zero_of_no_sems (by decide) r.2⟩)
    (run_seq scopedRefs_eq scopedSems_eq defs main (fun _ => ops) main_eq (fun _ => ops_sub) m ρ)

end Cert.ReferenceIdeal.Out

end
-- ==== Proof.RefMath.lean ====
/-
  What the reference's stages give at an index, over the extended reals.
-/
module

public import proofs.«01_k».proof.Proof.RefRun
public import proofs.«01_k».proof.Proof.PayloadMath

@[expose] public section

set_option maxRecDepth 16384

noncomputable section

open Idealize.ShloMosaic Idealize.ShloMosaic.TcCoe Idealize.SL.Sem

namespace Cert.ReferenceIdeal.Out

open Cert.ReferenceIdeal Cert.ReferenceIdeal.Gen Cert.Proof

/-- With no token masked, the pooled vector is the sum over the tokens. -/
theorem pooled_apply (x : FVec Ideal S2x4096x4096 .f32) (p : IVec S2x4096 1) (hp : ∀ b t, ~~~ p (ix2 b t) = 1#1) (b : Fin 2) (d : Fin 4096) :
    pooled x p (ix2 b d) = ∑ t : Fin 4096, x (ix3 b t d) := by
  unfold pooled
  pointwise
  refine Finset.sum_congr rfl fun t _ => ?_
  rw [hp]
  have : FloatOps.uitofp (F := Ideal) .f32 (1#1) = (1 : EReal) := by
    simp [FloatOps.uitofp]
  rw [this]
  exact mul_one _

theorem logits_apply (x : FVec Ideal S2x4096x4096 .f32) (p : IVec S2x4096 1) (w : FVec Ideal S120x4096 .f32) (b : FVec Ideal S120 .f32)
    (i : Fin 2) (k : Fin 120) :
    logits x p w b (ix2 i k) = ∑ d : Fin 4096, pooled x p (ix2 i d) * w (ix2 k d) + b (ix1 k) := by
  unfold logits
  generalize pooled x p = q
  pointwise

theorem logp_apply (l : FVec Ideal S2x120 .f32) (i : Fin 2) (k : Fin 120) :
    logp (logits3 l) (ix3 i 0 k) = logSoft (fun x => l (ix2 i x)) k := by
  unfold logp shifted logits3
  pointwise
  rw [negInf]
  simp only [bot_le, max_eq_right]
  rfl

/-- The step of the reference's pass keeps the better of its two pairs. -/
theorem keeps : Keeps (reducer_argmax_f32_i32 (F := Ideal)) := by
  intro a b
  obtain ⟨a₁, a₂⟩ := a
  obtain ⟨b₁, b₂⟩ := b
  have e : reducer_argmax_f32_i32 (F := Ideal) (a₁, a₂) (b₁, b₂)
      = if b₁ < a₁ ∨ a₁ = b₁ ∧ a₂.toInt < b₂.toInt then (a₁, a₂) else (b₁, b₂) := by
    unfold reducer_argmax_f32_i32
    by_cases h₁ : b₁ < a₁
    · simp [Ideal.cmpf_def, Ideal.cmp, IntOp.cmpi, IntOp.ori, IntOp.andi, Scalar.select, h₁, BitVec.slt]
      intro h
      refine absurd ?_ h
      generalize (decide (a₁ = b₁) && decide (a₂.toInt < b₂.toInt)) = c
      cases c <;> rfl
    · by_cases h₂ : a₁ = b₁
      · subst h₂
        by_cases h₃ : a₂.toInt < b₂.toInt
        · simp [Ideal.cmpf_def, Ideal.cmp, IntOp.cmpi, IntOp.ori, IntOp.andi, Scalar.select, h₃, BitVec.slt]
        · simp [Ideal.cmpf_def, Ideal.cmp, IntOp.cmpi, IntOp.ori, IntOp.andi, Scalar.select, h₃, BitVec.slt]
      · simp [Ideal.cmpf_def, Ideal.cmp, IntOp.cmpi, IntOp.ori, IntOp.andi, Scalar.select, h₁, h₂, BitVec.slt]
  rw [e]
  split
  · rename_i h
    refine ⟨Or.inl rfl, Better.refl _, ?_⟩
    rcases h with h | ⟨h, h'⟩
    · exact Or.inl h
    · exact Or.inr ⟨h, h'.le⟩
  · rename_i h
    refine ⟨Or.inr rfl, ?_, Better.refl _⟩
    rw [not_or, not_lt, not_and] at h
    rcases lt_or_eq_of_le h.1 with h' | h'
    · exact Or.inl h'
    · exact Or.inr ⟨h'.symm, not_lt.1 (h.2 h')⟩

theorem drop_eq (i : Fin 2) (a : Fin 2) (b : Fin 1) (k : Fin 120) :
    reducesTo_S2x1x120_S2x1_d2.drop (ix3 a b k) = ix2 i 0 ↔ a = i := by
  constructor
  · intro h
    have := congrFun h 0
    exact this
  · rintro rfl
    funext x
    match x with
    | 0 => rfl
    | 1 => exact Subsingleton.elim (α := Fin 1) _ _

theorem pred_apply (l : FVec Ideal S2x120 .f32) (i : Fin 2) (k : Fin 120) (hk : IsFirst (fun x => l (ix2 i x)) k) :
    pred (logits3 l) (ix2 i 0) = BitVec.ofNat 32 k.val := by
  unfold pred
  rw [Ideal.argReduce_eq_reduce2, Host.reduce2_eq_foldl_fiber]
  have e₁ : ∀ a b x, logits3 l (ix3 a b x) = l (ix2 a x) := by
    intro a b x
    unfold logits3
    pointwise
  have e₂ : ∀ a b x, iotaInDim S2x1x120 32 2 (ix3 a b x) = BitVec.ofNat 32 x.val := by
    intro a b x
    rfl
  have e₃ : ∀ j, (constant (F := Ideal) S_ .f32 0xFF800000#32) j = (⊥ : EReal) := fun j => negInf
  rw [e₃]
  refine foldl_isFirst keeps (fun x => l (ix2 i x)) _ (fun x => ?_) (fun p hp => ?_) k hk
  · unfold Host.argReduceFiber
    refine List.mem_map.2 ⟨S2x1x120.rowMajor (ix3 i 0 x), List.mem_filter.2 ⟨List.mem_finRange _, ?_⟩, ?_⟩
    · rw [Equiv.symm_apply_apply]
      exact decide_eq_true ((drop_eq i i 0 x).2 rfl)
    · rw [Equiv.symm_apply_apply, e₁, e₂]
  · unfold Host.argReduceFiber at hp
    obtain ⟨n, hn, rfl⟩ := List.mem_map.1 hp
    have hd := of_decide_eq_true (List.mem_filter.1 hn).2
    generalize S2x1x120.rowMajor.symm n = y at hd ⊢
    obtain ⟨a, b, x, rfl⟩ : ∃ (a : Fin 2) (b : Fin 1) (x : Fin 120), y = ix3 a b x := ⟨y 0, y 1, y 2, eq_ix3 y⟩
    rw [drop_eq] at hd
    refine ⟨x, ?_⟩
    rw [e₁, e₂, hd]

/-- The row of the table an index names, the index being one of the table's. -/
theorem sel_apply (q : IVec S2x1 32) (i j : Fin 2) (k : Fin 120) (hq : q (ix2 i 0) = BitVec.ofNat 32 k.val) :
    sel q (ix2 i j) = lit0 (S120x2.rowMajor (ix2 k j)) := by
  unfold sel
  pointwise
  generalize hs : broadcastInDim S2x1x1 ![0, 1] bcast_S2x1_S2x1x1_0_1
      (select (cmpi .slt q (broadcastInDim S2x1 ![] bcast_S_S2x1 (constantI S_ 32 0#32)))
        (addi q (broadcastInDim S2x1 ![] bcast_S_S2x1 (constantI S_ 32 120#32))) q) = idx
  have hidx : idx (ix3 i 0 0) = BitVec.ofNat 32 k.val := by
    rw [← hs]
    pointwise
    rw [hq]
    have : IntOp.cmpi .slt (BitVec.ofNat 32 k.val) 0#32 = 0#1 := by
      have h0 : (0#32 : BitVec 32).toInt = 0 := by decide
      simp only [IntOp.cmpi, BitVec.slt, toInt_small k.val (by omega), h0]
      have : decide (((k.val : ℕ) : ℤ) < 0) = false := decide_eq_false (by omega)
      rw [this]
      rfl
    rw [this]
    rfl
  have h0 : gather_S120x2_S2x1x1_S2x1x2_2_0_n_n_0_2_12.start (ix3 i 0 j) idx (0 : Fin 2) = k.val := by
    unfold GatherDims.start
    rw [dif_pos (show (0 : Fin 2) ∈ gather_S120x2_S2x1x1_S2x1x2_2_0_n_n_0_2_12.startIndexMap from List.mem_singleton.mpr rfl)]
    have hsi : gather_S120x2_S2x1x1_S2x1x2_2_0_n_n_0_2_12.siIdx (ix3 i 0 j)
        ⟨List.idxOf (0 : Fin 2) gather_S120x2_S2x1x1_S2x1x2_2_0_n_n_0_2_12.startIndexMap,
          List.idxOf_lt_length_iff.2 (List.mem_singleton.mpr rfl)⟩ = ix3 i 0 0 := by
      funext b
      refine Fin.ext ?_
      match b with
      | ⟨0, _⟩ => rfl
      | ⟨1, _⟩ => rfl
      | ⟨2, _⟩ => rfl
    rw [hsi, hidx, toInt_small k.val (by omega), Int.toNat_natCast]
    show min k.val 119 = k.val
    omega
  have h1 : gather_S120x2_S2x1x1_S2x1x2_2_0_n_n_0_2_12.start (ix3 i 0 j) idx (1 : Fin 2) = 0 := by
    unfold GatherDims.start
    rw [dif_neg (show (1 : Fin 2) ∉ gather_S120x2_S2x1x1_S2x1x2_2_0_n_n_0_2_12.startIndexMap from by decide)]
  have ho : gather_S120x2_S2x1x1_S2x1x2_2_0_n_n_0_2_12.operandIdx (ix3 i 0 j) idx = ix2 k j := by
    funext a
    refine Fin.ext ?_
    show gather_S120x2_S2x1x1_S2x1x2_2_0_n_n_0_2_12.start (ix3 i 0 j) idx a
      + gather_S120x2_S2x1x1_S2x1x2_2_0_n_n_0_2_12.batchCoord (ix3 i 0 j) a
      + gather_S120x2_S2x1x1_S2x1x2_2_0_n_n_0_2_12.offCoord (ix3 i 0 j) a = _
    rw [GatherDims.batchCoord_eq_zero _ _ _ List.not_mem_nil]
    match a with
    | ⟨0, _⟩ =>
      rw [GatherDims.offCoord_eq_zero _ _ _ (fun h => ((GatherDims.mem_sKept _ _).mp h).1 (List.mem_singleton.mpr rfl))]
      exact h0
    | ⟨1, _⟩ =>
      refine (congrArg (fun n => n + 0 + gather_S120x2_S2x1x1_S2x1x2_2_0_n_n_0_2_12.offCoord (ix3 i 0 j) (1 : Fin 2)) h1).trans ?_
      show 0 + 0 + _ = _
      rw [Nat.zero_add]
      rfl
  unfold Host.gather
  rw [ho]

end Cert.ReferenceIdeal.Out

end
-- ==== Proof.Results.lean ====
/-
  The three results, equal: from arguments that agree and no token masked, the kernel's logits are the reference's, and so
  are its log-probabilities, its predicted class and the row it takes of the table.
-/
module

public import proofs.«01_k».proof.Proof.Total
public import proofs.«01_k».proof.Proof.RefMath
public import proofs.«01_k».proof.Proof.Gen.Pre_no_padding
public import Idealize.ShloMosaic.Lib.ReduceAll

@[expose] public section

set_option maxRecDepth 16384

noncomputable section

open Idealize.ShloMosaic Idealize.ShloMosaic.TcCoe Idealize.SL.Sem

namespace Cert.Proof

/-- The precondition, read: no token is masked. -/
theorem not_padded (x : FVec Ideal Cert.Pre_no_padding.S2x4096x4096 .f32) (p : IVec Cert.Pre_no_padding.S2x4096 1)
    (w : FVec Ideal Cert.Pre_no_padding.S120x4096 .f32) (b : FVec Ideal Cert.Pre_no_padding.S120 .f32)
    (h : Cert.Pre_no_padding.fn (F := Ideal) x p w b = fun _ => 1#1) (i : Fin 2) (t : Fin 4096) : ~~~ p (ix2 i t) = 1#1 := by
  unfold Cert.Pre_no_padding.fn at h
  haveI : Subsingleton Cert.Pre_no_padding.S_.Idx := ⟨fun _ _ => funext fun a => a.elim0⟩
  exact Host.reduce_andi_all _ _ _ _ (fun a => a.elim0) (congrFun h (fun a => a.elim0)) (ix2 i t)

/-- The table as the kernel holds it, classes along the lanes, and as the reference does, classes down the rows. -/
theorem table_eq (j : Fin 2) (k : Fin 120) :
    Cert.KernelIdeal.lit0 (Cert.KernelIdeal.S2x120.rowMajor (ix2 j k)) = Cert.ReferenceIdeal.lit0 (Cert.ReferenceIdeal.S120x2.rowMajor (ix2 k j)) := by
  revert j k
  decide +kernel

variable (m : (ℓ : Loc Cert.KernelIdeal.nD Cert.KernelIdeal.τ Cert.KernelIdeal.sig) → Buf (Elt Ideal) ℓ) (c : Dev Cert.KernelIdeal.nD)

/-- The reference's logits over the kernel's arguments. -/
abbrev refLogits : FVec Ideal Cert.ReferenceIdeal.S2x120 .f32 :=
  Cert.ReferenceIdeal.Out.logits (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))

open Cert.KernelIdeal Cert.KernelIdeal.Gen Cert.KernelIdeal.Out

/-- The mask. -/
abbrev mask : IVec S2x4096 1 := m ((c.tc : Thread Cert.KernelIdeal.nD Cert.KernelIdeal.τ).loc Cert.KernelIdeal.main_arg1)

variable (hp : ∀ (b : Fin 2) (t : Fin 4096), ~~~ mask m c (ix2 b t) = 1#1)

include hp

theorem logits_eq (i : Fin 2) (k : Fin 120) :
    k0_pay3 (F := Ideal) (total m c) (iblk m c 1 tLast) (iblk m c 2 tLast) (ix2 i k) = refLogits m c (ix2 i k) := by
  refine (pay3_apply (total m c) (iblk m c 1 tLast) (iblk m c 2 tLast) i k).trans ?_
  refine Eq.trans ?_ (Cert.ReferenceIdeal.Out.logits_apply _ _ _ _ i k).symm
  refine congrArg₂ (fun a b : EReal => a + b) (Finset.sum_congr rfl fun d _ => ?_) (blk_b m c tLast k)
  refine congrArg₂ (fun a b : EReal => a * b) ?_ (blk_w m c tLast k d)
  exact (total_apply m c i d).trans (Cert.ReferenceIdeal.Out.pooled_apply _ _ hp i d).symm

theorem row_eq (i : Fin 2) :
    (fun x : Fin 120 => k0_pay3 (F := Ideal) (total m c) (iblk m c 1 tLast) (iblk m c 2 tLast) (ix2 i x)) = fun x => refLogits m c (ix2 i x) :=
  funext fun x => logits_eq m c hp i x

theorem logp_eq :
    k0_pay5 (F := Ideal) (total m c) (iblk m c 1 tLast) (iblk m c 2 tLast) = Cert.ReferenceIdeal.Out.logp (Cert.ReferenceIdeal.Out.logits3 (refLogits m c)) := by
  funext y
  obtain ⟨i, u, k, rfl⟩ : ∃ (i : Fin 2) (u : Fin 1) (k : Fin 120), y = ix3 i u k := ⟨y 0, y 1, y 2, eq_ix3 y⟩
  obtain rfl : u = 0 := Subsingleton.elim _ _
  refine (pay5_apply (total m c) (iblk m c 1 tLast) (iblk m c 2 tLast) i k).trans ?_
  rw [row_eq m c hp i]
  exact (Cert.ReferenceIdeal.Out.logp_apply (refLogits m c) i k).symm

/-- The class both predict: the first place of the row's largest logit. -/
theorem pred_both (i : Fin 2) : ∃ k : Fin 120,
    k0_pay6 (F := Ideal) (total m c) (iblk m c 1 tLast) (iblk m c 2 tLast) (ix2 i 0) = BitVec.ofNat 32 k.val
    ∧ Cert.ReferenceIdeal.Out.pred (Cert.ReferenceIdeal.Out.logits3 (refLogits m c)) (ix2 i 0) = BitVec.ofNat 32 k.val := by
  obtain ⟨k, hk, -⟩ := exists_isFirst fun x => refLogits m c (ix2 i x)
  refine ⟨k, pay6_apply _ _ _ i k ?_, Cert.ReferenceIdeal.Out.pred_apply _ i k hk⟩
  rw [row_eq m c hp i]
  exact hk

theorem pred_eq :
    k0_pay6 (F := Ideal) (total m c) (iblk m c 1 tLast) (iblk m c 2 tLast) = Cert.ReferenceIdeal.Out.pred (Cert.ReferenceIdeal.Out.logits3 (refLogits m c)) := by
  funext y
  obtain ⟨i, u, rfl⟩ : ∃ (i : Fin 2) (u : Fin 1), y = ix2 i u := ⟨y 0, y 1, eq_ix2 y⟩
  obtain rfl : u = 0 := Subsingleton.elim _ _
  obtain ⟨k, h, h'⟩ := pred_both m c hp i
  exact h.trans h'.symm

theorem sel_eq :
    k0_pay7 (F := Ideal) (total m c) (iblk m c 1 tLast) (iblk m c 2 tLast) (iblk m c 3 tLast)
      = Cert.ReferenceIdeal.Out.sel (Cert.ReferenceIdeal.Out.pred (Cert.ReferenceIdeal.Out.logits3 (refLogits m c))) := by
  funext y
  obtain ⟨i, j, rfl⟩ : ∃ i j : Fin 2, y = ix2 i j := ⟨y 0, y 1, eq_ix2 y⟩
  obtain ⟨k, h, h'⟩ := pred_both m c hp i
  refine (pay7_apply (total m c) (iblk m c 1 tLast) (iblk m c 2 tLast) (iblk m c 3 tLast) i j k h).trans ?_
  refine Eq.trans ?_ (Cert.ReferenceIdeal.Out.sel_apply _ i j k h').symm
  exact (blk_s m c tLast j k).trans (table_eq j k)

end Cert.Proof

end
-- ==== Proof.lean ====
/-
  The proof of `Cert.Claim`. The frames of the kernel, as printed and idealized, are generated; the reference's is its run
  (Proof/RefRun.lean) with the values dropped. The algebraic claim joins the kernel's run (Proof/KernelValue.lean) and the
  reference's by the three equalities of Proof/Results.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_padding
public import proofs.«01_k».proof.Proof.Gen.KernelIdeal.Value
public import proofs.«01_k».proof.Proof.Results
public import Idealize.ShloMosaic.Adequacy
public import Idealize.ShloMosaic.Init

@[expose] public section

noncomputable section

namespace Cert.Proof

open Idealize.ShloMosaic Idealize.SL.Sem Cert.Kernel

/-- The reference leaves its arguments as they were, and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun _ h => ⟨fun c => (h.1 c).2.2.2, h.2⟩) (Cert.ReferenceIdeal.Out.run m g)

/-- With no token masked, the kernel and the reference end with equal results. -/
theorem algebraic : Cert.algebraic_KernelIdeal_ReferenceIdeal_pre_no_padding (hKernelIdeal := Cert.KernelIdeal.Gen.facts)
    (hReferenceIdeal := Cert.ReferenceIdeal.Gen.facts) (hPre_no_padding := Cert.Pre_no_padding.Gen.facts) := by
  intro m g m' g' hpre hargs
  have hp : ∀ (c : Dev Cert.KernelIdeal.nD) (b : Fin 2) (t : Fin 4096), ~~~ mask m c (ix2 b t) = 1#1 :=
    fun c b t => not_padded _ _ _ _ (hpre c) b t
  have hl : ∀ c : Dev Cert.KernelIdeal.nD, Cert.ReferenceIdeal.Out.lg m' c = Cert.ReferenceIdeal.Out.logits3 (refLogits m c) := by
    intro c
    obtain ⟨h0, h1, h2, h3⟩ := hargs c
    unfold Cert.ReferenceIdeal.Out.lg refLogits
    rw [h0, h1, h2, h3]
  refine ⟨fun c => Cert.ReferenceIdeal.Out.logp (Cert.ReferenceIdeal.Out.logits3 (refLogits m c)),
    fun c => Cert.ReferenceIdeal.Out.sel (Cert.ReferenceIdeal.Out.pred (Cert.ReferenceIdeal.Out.logits3 (refLogits m c))),
    fun c => Cert.ReferenceIdeal.Out.pred (Cert.ReferenceIdeal.Out.logits3 (refLogits m c)), ?_, ?_⟩
  · refine (θ_run _ _ _).mono (fun r h c => ?_) (Cert.KernelIdeal.Out.run m g)
    obtain ⟨e0, e1, e2, ha⟩ := h c
    exact ⟨e0.trans (logp_eq m c (hp c)), e1.trans (sel_eq m c (hp c)), e2.trans (pred_eq m c (hp c)), ha⟩
  · refine (θ_run _ _ _).mono (fun r h c => ?_) (Cert.ReferenceIdeal.Out.run m' g')
    obtain ⟨e0, e1, e2, ha⟩ := h.1 c
    rw [hl c] at e0 e1 e2
    exact ⟨e0, e1, e2, ha⟩

theorem claim : Cert.Claim := ⟨Cert.Kernel.Gen.facts, Cert.KernelIdeal.Gen.facts, Cert.ReferenceIdeal.Gen.facts, Cert.Pre_no_padding.Gen.facts,
  fun m g _ => Cert.Kernel.Gen.frame m g, fun m g _ => Cert.KernelIdeal.Gen.frame m g, fun m g _ => Cert.KernelIdeal.Gen.frame m g,
  fun m g _ => reference_frame m g, fun m g _ => reference_frame m g, trivial, algebraic⟩

end Cert.Proof

end
